-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_days [hPre_finite_and_days : Cert.Pre_finite_and_days.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_days.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_and_days.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_and_days.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_and_days.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_and_days.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_and_days.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_and_days.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_days [hPre_finite_and_days : Cert.Pre_finite_and_days.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_days.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_and_days.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_and_days.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_and_days.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_and_days.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_and_days.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_and_days.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_days [hKernelIdeal : Cert.KernelIdeal.Facts] [hPre_finite_and_days : Cert.Pre_finite_and_days.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_days m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_days [hReferenceIdeal : Cert.ReferenceIdeal.Facts] [hPre_finite_and_days : Cert.Pre_finite_and_days.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_days m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_and_days [hKernelIdeal : Cert.KernelIdeal.Facts] [hReferenceIdeal : Cert.ReferenceIdeal.Facts] [hPre_finite_and_days : Cert.Pre_finite_and_days.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_days m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_and_days : Cert.Pre_finite_and_days.Facts),
    quiescent_Kernel (hKernel := hKernel)
    ∧ quiescent_KernelIdeal (hKernelIdeal := hKernelIdeal)
    ∧ quiescent_KernelIdeal_pre_finite_and_days (hKernelIdeal := hKernelIdeal) (hPre_finite_and_days := hPre_finite_and_days)
    ∧ quiescent_ReferenceIdeal (hReferenceIdeal := hReferenceIdeal)
    ∧ quiescent_ReferenceIdeal_pre_finite_and_days (hReferenceIdeal := hReferenceIdeal) (hPre_finite_and_days := hPre_finite_and_days)
    ∧ preserves_Kernel_KernelIdeal
    ∧ algebraic_KernelIdeal_ReferenceIdeal_pre_finite_and_days (hKernelIdeal := hKernelIdeal) (hReferenceIdeal := hReferenceIdeal) (hPre_finite_and_days := hPre_finite_and_days)
-- ==== Pre_finite_and_days.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S7x1024 : Shape := ⟨2, ![7, 1024]⟩
abbrev S_ : Shape := ⟨0, ![]⟩

class Facts : Prop where
  bcast_S_S4x4096x1024 : S_.BroadcastsInDim S4x4096x1024 (![] : Fin 0 → Fin S4x4096x1024.rank)
  bcast_S_S4x4096 : S_.BroadcastsInDim S4x4096 (![] : Fin 0 → Fin S4x4096.rank)
  bcast_S_S4096x1024 : S_.BroadcastsInDim S4096x1024 (![] : Fin 0 → Fin S4096x1024.rank)
  bcast_S_S2x1024 : S_.BroadcastsInDim S2x1024 (![] : Fin 0 → Fin S2x1024.rank)
  bcast_S_S1024 : S_.BroadcastsInDim S1024 (![] : Fin 0 → Fin S1024.rank)
  bcast_S_S7x1024 : S_.BroadcastsInDim S7x1024 (![] : Fin 0 → Fin S7x1024.rank)

variable [Facts]

def fn_part1 {F : FTy → Type} [FloatOps F] (main_arg6 : FVec F S7x1024 .f32) (main_v2 : IVec S4x4096x1024 1) (main_v5 : IVec S4x4096 1) (main_v10 : IVec S4x4096 1) (main_v13 : IVec S4096x1024 1) (main_v16 : IVec S2x1024 1) (main_v17 : FVec F S1024 .f32) : IVec S4x4096x1024 1 × IVec S4x4096 1 × IVec S4x4096 1 × IVec S4096x1024 1 × IVec S2x1024 1 × IVec S1024 1 × IVec S7x1024 1 :=
  let main_cst_4 : FVec F S_ .f32 := constant S_ .f32 0x7F800000#32
  let main_v18 : FVec F S1024 .f32 := broadcastInDim S1024 ![] bcast_S_S1024 main_cst_4
  let main_v19 : IVec S1024 1 := cmpf .olt main_v17 main_v18
  let main_v20 : FVec F S7x1024 .f32 := Host.absf main_arg6
  let main_cst_5 : FVec F S_ .f32 := constant S_ .f32 0x7F800000#32
  let main_v21 : FVec F S7x1024 .f32 := broadcastInDim S7x1024 ![] bcast_S_S7x1024 main_cst_5
  let main_v22 : IVec S7x1024 1 := cmpf .olt main_v20 main_v21
  (main_v2, main_v5, main_v10, main_v13, main_v16, main_v19, main_v22)

def fn {F : FTy → Type} [FloatOps F] (main_arg0 : FVec F S4x4096x1024 .f32) (main_arg1 : FVec F S4x4096 .f32) (main_arg2 : IVec S4x4096 32) (main_arg3 : FVec F S4096x1024 .f32) (main_arg4 : FVec F S2x1024 .f32) (main_arg5 : FVec F S1024 .f32) (main_arg6 : FVec F S7x1024 .f32) (main_arg7 : FVec F S1024 .f32) (main_arg8 : FVec F S1024 .f32) : IVec S4x4096x1024 1 × IVec S4x4096 1 × IVec S4x4096 1 × IVec S4096x1024 1 × IVec S2x1024 1 × IVec S1024 1 × IVec S7x1024 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x4096 .f32 := Host.absf main_arg1
  let main_cst_0 : FVec F S_ .f32 := constant S_ .f32 0x7F800000#32
  let main_v4 : FVec F S4x4096 .f32 := broadcastInDim S4x4096 ![] bcast_S_S4x4096 main_cst_0
  let main_v5 : IVec S4x4096 1 := cmpf .olt main_v3 main_v4
  let main_c : IVec S_ 32 := constantI S_ 32 0#32
  let main_v6 : IVec S4x4096 32 := broadcastInDim S4x4096 ![] bcast_S_S4x4096 main_c
  let main_v7 : IVec S4x4096 1 := cmpi .sge main_arg2 main_v6
  let main_c_1 : IVec S_ 32 := constantI S_ 32 7#32
  let main_v8 : IVec S4x4096 32 := broadcastInDim S4x4096 ![] bcast_S_S4x4096 main_c_1
  let main_v9 : IVec S4x4096 1 := cmpi .slt main_arg2 main_v8
  let main_v10 : IVec S4x4096 1 := andi main_v7 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S2x1024 .f32 := Host.absf main_arg4
  let main_cst_3 : FVec F S_ .f32 := constant S_ .f32 0x7F800000#32
  let main_v15 : FVec F S2x1024 .f32 := broadcastInDim S2x1024 ![] bcast_S_S2x1024 main_cst_3
  let main_v16 : IVec S2x1024 1 := cmpf .olt main_v14 main_v15
  let main_v17 : FVec F S1024 .f32 := Host.absf main_arg5
  fn_part1 (F := F) main_arg6 main_v2 main_v5 main_v10 main_v13 main_v16 main_v17
-- ==== Kernel.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S7x1024 : Shape := ⟨2, ![7, 1024]⟩
abbrev S1x1024 : Shape := ⟨2, ![1, 1024]⟩
abbrev S_ : Shape := ⟨0, ![]⟩
abbrev S6x1024 : Shape := ⟨2, ![6, 1024]⟩
abbrev S16x1024 : Shape := ⟨2, ![16, 1024]⟩
abbrev S4x2x1x2048 : Shape := ⟨4, ![4, 2, 1, 2048]⟩
abbrev S1x2048x1024 : Shape := ⟨3, ![1, 2048, 1024]⟩
abbrev S2048x1024 : Shape := ⟨2, ![2048, 1024]⟩
abbrev S1x1x1x2048 : Shape := ⟨4, ![1, 1, 1, 2048]⟩
abbrev S1x2048 : Shape := ⟨2, ![1, 2048]⟩
abbrev S16x2048 : Shape := ⟨2, ![16, 2048]⟩
abbrev S2048 : Shape := ⟨1, ![2048]⟩
abbrev S2048x1 : Shape := ⟨2, ![2048, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .f32⟩
  | .hbm, ⟨2, _⟩ => ⟨S4x4096, .i32⟩
  | .hbm, ⟨3, _⟩ => ⟨S4096x1024, .f32⟩
  | .hbm, ⟨4, _⟩ => ⟨S2x1024, .f32⟩
  | .hbm, ⟨5, _⟩ => ⟨S1024, .f32⟩
  | .hbm, ⟨6, _⟩ => ⟨S7x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S6x1024, .f32⟩
  | .hbm, ⟨12, _⟩ => ⟨S16x1024, .f32⟩
  | .hbm, ⟨13, _⟩ => ⟨S16x1024, .bf16⟩
  | .hbm, ⟨14, _⟩ => ⟨S4x2x1x2048, .f32⟩
  | .hbm, ⟨15, _⟩ => ⟨S4x2x1x2048, .i32⟩
  | .hbm, ⟨16, _⟩ => ⟨S1x1024, .f32⟩
  | .hbm, ⟨17, _⟩ => ⟨S1x1024, .f32⟩
  | .hbm, ⟨18, _⟩ => ⟨S4x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .i32⟩
  | .local _ .vmem, ⟨7, _⟩ => ⟨S1x1x1x2048, .i32⟩
  | .local _ .vmem, ⟨8, _⟩ => ⟨S16x1024, .bf16⟩
  | .local _ .vmem, ⟨9, _⟩ => ⟨S1x1024, .f32⟩
  | .local _ .vmem, ⟨10, _⟩ => ⟨S1x1024, .f32⟩
  | .local _ .vmem, ⟨11, _⟩ => ⟨S1x2048x1024, .f32⟩
  | .local _ .vmem, ⟨12, _⟩ => ⟨S1x2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x4096x1024 : Shape := ⟨3, ![4, 4096, 1024]⟩
abbrev S4x4096 : Shape := ⟨2, ![4, 4096]⟩
abbrev S4096x1024 : Shape := ⟨2, ![4096, 1024]⟩
abbrev S2x1024 : Shape := ⟨2, ![2, 1024]⟩
abbrev S1024 : Shape := ⟨1, ![1024]⟩
abbrev S7x1024 : Shape := ⟨2, ![7, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x1024 : Shape := ⟨3, ![1, 4096, 1024]⟩
abbrev S4x4096x1 : Shape := ⟨3, ![4, 4096, 1]⟩
abbrev S4x4096x2 : Shape := ⟨3, ![4, 4096, 2]⟩
abbrev S1x1x1024 : Shape := ⟨3, ![1, 1, 1024]⟩
abbrev S1x1x1 : Shape := ⟨3, ![1, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .f32⟩
  | .hbm, ⟨2, _⟩ => ⟨S4x4096, .i32⟩
  | .hbm, ⟨3, _⟩ => ⟨S4096x1024, .f32⟩
  | .hbm, ⟨4, _⟩ => ⟨S2x1024, .f32⟩
  | .hbm, ⟨5, _⟩ => ⟨S1024, .f32⟩
  | .hbm, ⟨6, _⟩ => ⟨S7x1024, .f32⟩
  | .hbm, ⟨7, _⟩ => ⟨S1024, .f32⟩
  | .hbm, ⟨8, _⟩ => ⟨S1024, .f32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S1, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S1x1, .i32⟩
  | .hbm, ⟨23, _⟩ => ⟨S4096x1, .i32⟩
  | .hbm, ⟨24, _⟩ => ⟨S4096x1, .i1⟩
  | .hbm, ⟨25, _⟩ => ⟨S4096x1, .i1⟩
  | .hbm, ⟨26, _⟩ => ⟨S_, .i1⟩
  | .hbm, ⟨27, _⟩ => ⟨S4096, .i1⟩
  | .hbm, ⟨28, _⟩ => ⟨S4096x1024, .f32⟩
  | .hbm, ⟨29, _⟩ => ⟨S4096x1024, .i1⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S1x4096x1024, .f32⟩
  | .hbm, ⟨34, _⟩ => ⟨S4x4096x1024, .f32⟩
  | .hbm, ⟨35, _⟩ => ⟨S4x4096x1024, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2, .f32⟩
  | .hbm, ⟨43, _⟩ => ⟨S4x4096x1024, .f32⟩
  | .hbm, ⟨44, _⟩ => ⟨S4x4096x1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S_, .i32⟩
  | .hbm, ⟨49, _⟩ => ⟨S4x4096, .i32⟩
  | .hbm, ⟨50, _⟩ => ⟨S4x4096, .i1⟩
  | .hbm, ⟨51, _⟩ => ⟨S_, .i32⟩
  | .hbm, ⟨52, _⟩ => ⟨S4x4096, .i32⟩
  | .hbm, ⟨53, _⟩ => ⟨S4x4096, .i32⟩
  | .hbm, ⟨54, _⟩ => ⟨S4x4096, .i32⟩
  | .hbm, ⟨55, _⟩ => ⟨S4x4096x1, .i32⟩
  | .hbm, ⟨56, _⟩ => ⟨S1, .i32⟩
  | .hbm, ⟨57, _⟩ => ⟨S_, .i32⟩
  | .hbm, ⟨58, _⟩ => ⟨S4x4096x1, .i32⟩
  | .hbm, ⟨59, _⟩ => ⟨S4x4096x1, .i1⟩
  | .hbm, ⟨60, _⟩ => ⟨S1x1x1, .i32⟩
  | .hbm, ⟨61, _⟩ => ⟨S4x4096x1, .i32⟩
  | .hbm, ⟨62, _⟩ => ⟨S4x4096x1, .i1⟩
  | .hbm, ⟨63, _⟩ => ⟨S4x4096x1, .i1⟩
  | .hbm, ⟨64, _⟩ => ⟨S_, .i1⟩
  | .hbm, ⟨65, _⟩ => ⟨S4x4096, .i1⟩
  | .hbm, ⟨66, _⟩ => ⟨S4x4096x1024, .f32⟩
  | .hbm, ⟨67, _⟩ => ⟨S4x4096x1024, .i1⟩
  | .hbm, ⟨68, _⟩ => ⟨S_, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x4096, .f32⟩
  | .hbm, ⟨83, _⟩ => ⟨S4x4096x1, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x1, .f32⟩
  | .hbm, ⟨93, _⟩ => ⟨S4x4096x1024, .f32⟩
  | .hbm, ⟨94, _⟩ => ⟨S4x4096x1024, .f32⟩
  | .hbm, ⟨95, _⟩ => ⟨S1x1x1024, .f32⟩
  | .hbm, ⟨96, _⟩ => ⟨S4x4096x1024, .f32⟩
  | .hbm, ⟨97, _⟩ => ⟨S4x4096x1024, .f32⟩
  | .hbm, ⟨98, _⟩ => ⟨S1x1x1024, .f32⟩
  | .hbm, ⟨99, _⟩ => ⟨S4x4096x1024, .f32⟩
  | .hbm, ⟨100, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v16 : Ref sig .tc := ⟨.hbm, 70, rfl⟩
abbrev main_v17 : Ref sig .tc := ⟨.hbm, 71, rfl⟩
abbrev main_cst_0 : Ref sig .tc := ⟨.hbm, 72, rfl⟩
abbrev main_v18 : Ref sig .tc := ⟨.hbm, 73, rfl⟩
abbrev main_v19 : Ref sig .tc := ⟨.hbm, 74, rfl⟩
abbrev main_cst_1 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_cst_2 : Ref sig .tc := ⟨.hbm, 81, rfl⟩
abbrev main_v25 : Ref sig .tc := ⟨.hbm, 82, rfl⟩
abbrev main_v26 : Ref sig .tc := ⟨.hbm, 83, rfl⟩
abbrev main_cst_3 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_4 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩

abbrev nD : Nat := 1
abbrev τ : Topo := Topo.v7x

variable {F : FTy → Type} [FloatOps F]
-- ==== Proof.Spec.lean ====
module

public import Idealize.ShloMosaic.PureOps.Ideal

@[expose] public section

/-!
# The mathematics: embeddings added up, a row normalised

Both programs add, to every hidden state, the embedding of its position, of its time of day and of its day of the
week, and normalise each row of 1024 sums. This module names those two steps over the extended reals.
-/

noncomputable section

namespace Cert.LayerNormed

open Idealize.ShloMosaic

/-- The row of the seven-row table that a day's word names: its number modulo 7. -/
def dayRow (d : BitVec 32) : Fin 7 := ⟨d.toNat % 7, Nat.mod_lt _ (by decide)⟩

/-- The angle of a time of day: the time by the single-precision constant for `2π`. -/
def angle (t : EReal) : EReal := t * Ideal.ofBits .f32 0x40C90FDB#32

/-- One sum: the hidden state `x`, the position's entry `p`, the sine and cosine of the time's angle weighed by `w₀`
    and `w₁`, the bias `b`, and the day's entry `e`. -/
def summed (x p t w₀ w₁ b e : EReal) : EReal := x + p + (Ideal.sin (angle t) * w₀ + Ideal.cos (angle t) * w₁) + b + e

/-- The mean of a row. -/
def mean (h : Fin 1024 → EReal) : EReal := Ideal.div (∑ k, h k) (Ideal.ofBits .f32 0x44800000#32)

/-- The variance of a row: the mean of the squared distances from the mean. -/
def variance (h : Fin 1024 → EReal) : EReal :=
  Ideal.div (∑ k, (h k - mean h) * (h k - mean h)) (Ideal.ofBits .f32 0x44800000#32)

/-- Entry `j` of the normalised row: its distance from the mean, over the root of variance plus epsilon, scaled by
    `g` and shifted by `b`. -/
def normed (h : Fin 1024 → EReal) (g b : EReal) (j : Fin 1024) : EReal :=
  Ideal.div (h j - mean h) (Ideal.sqrt (variance h + Ideal.ofBits .f32 0x2B8CBCCC#32)) * g + b

/-- A row normalised in the kernel's order of operations: the mean is the sum by `2⁻¹⁰`, the variance the mean of the
    squares less the square of the mean, and the distance is multiplied by the root's reciprocal. -/
def kernelNormed (h : Fin 1024 → EReal) (g b : EReal) (j : Fin 1024) : EReal :=
  let n : EReal := Ideal.ofBits .f32 0x3A800000#32
  (h j - (∑ k, h k) * n)
    * Ideal.rsqrt ((∑ k, h k * h k) * n - (∑ k, h k) * n * ((∑ k, h k) * n) + Ideal.ofBits .f32 0x2B8CBCCC#32) * g + b

end Cert.LayerNormed
-- ==== Proof.Consts.lean ====
module

public import Idealize.ShloMosaic.PureOps.Ideal

@[expose] public section

/-!
# The constants the two programs name

The kernel multiplies by `2⁻¹⁰` where the reference divides by 1024; both add the same positive epsilon; the constant
for `2π` is a real number.
-/

noncomputable section

namespace Cert.LayerNormed

open Idealize.ShloMosaic

/-- The pattern `0x44800000` is 1024. -/
theorem ofBits_1024 : Ideal.ofBits .f32 0x44800000#32 = ((1024 : ℝ) : EReal) := by
  simp [Ideal.ofBits, Ideal.ieee, -EReal.coe_mul]; norm_num

/-- The pattern `0x3A800000` is a 1024th. -/
theorem ofBits_inv_1024 : Ideal.ofBits .f32 0x3A800000#32 = ((1 / 1024 : ℝ) : EReal) := by
  simp [Ideal.ofBits, Ideal.ieee, -EReal.coe_mul]; norm_num

/-- The pattern of epsilon is a positive real number. -/
theorem ofBits_eps : ∃ r : ℝ, 0 < r ∧ Ideal.ofBits .f32 0x2B8CBCCC#32 = (r : EReal) := by
  refine ⟨9223372 * 2 ^ (-63 : ℤ), by positivity, ?_⟩
  simp [Ideal.ofBits, Ideal.ieee, -EReal.coe_mul]

/-- The pattern of `2π` is a real number. -/
theorem ofBits_two_pi : ∃ r : ℝ, Ideal.ofBits .f32 0x40C90FDB#32 = (r : EReal) := by
  refine ⟨13176795 * 2 ^ (-21 : ℤ), ?_⟩
  simp [Ideal.ofBits, Ideal.ieee, -EReal.coe_mul]

/-- The pattern `0x7F800000` is infinity. -/
theorem ofBits_inf : Ideal.ofBits .f32 0x7F800000#32 = (⊤ : EReal) := by
  simp [Ideal.ofBits, Ideal.ieee]

end Cert.LayerNormed
-- ==== Proof.Norm.lean ====
module

public import proofs.«01_k».proof.Proof.Spec
public import proofs.«01_k».proof.Proof.Consts

@[expose] public section

/-!
# The equation of the two layer norms

On a row of real numbers the mean of the squares less the square of the mean is the mean of the squared distances from
the mean, which is not negative; with a positive epsilon added its root is positive, and to divide by the root is to
multiply by its reciprocal.
-/

noncomputable section

namespace Cert.LayerNormed

open Idealize.ShloMosaic

/-- The sum of reals is a real. -/
theorem coe_row_sum (x : Fin 1024 → ℝ) : ∑ k, ((x k : ℝ) : EReal) = ((∑ k, x k : ℝ) : EReal) :=
  (map_sum (⟨⟨fun r : ℝ => (r : EReal), EReal.coe_zero⟩, EReal.coe_add⟩ : ℝ →+ EReal) x Finset.univ).symm

/-- The mean of the squares less the square of the mean is the mean of the squared distances. -/
theorem variance_real (x : Fin 1024 → ℝ) :
    (∑ k, x k * x k) * (1 / 1024) - (∑ k, x k) * (1 / 1024) * ((∑ k, x k) * (1 / 1024))
      = (∑ k, (x k - (∑ k, x k) * (1 / 1024)) * (x k - (∑ k, x k) * (1 / 1024))) * (1 / 1024) := by
  generalize hS : ∑ k, x k = S
  have h : ∀ k, (x k - S * (1 / 1024)) * (x k - S * (1 / 1024))
      = x k * x k - x k * (2 * (S * (1 / 1024))) + S * (1 / 1024) * (S * (1 / 1024)) := fun k => by ring
  simp only [h, Finset.sum_add_distrib, Finset.sum_sub_distrib, ← Finset.sum_mul, hS, Finset.sum_const,
    Finset.card_univ, Fintype.card_fin, nsmul_eq_mul]
  push_cast
  ring

/-- On a row of real numbers the two layer norms agree, whatever the scale and the shift. -/
theorem kernelNormed_eq (x : Fin 1024 → ℝ) (g b : EReal) (j : Fin 1024) :
    kernelNormed (fun k => (x k : EReal)) g b j = normed (fun k => (x k : EReal)) g b j := by
  obtain ⟨ε, hε, he⟩ := ofBits_eps
  have hn : (1024 : ℝ) ≠ 0 := by norm_num
  have hv := variance_real x
  have hmean : mean (fun k => (x k : EReal)) = (((∑ k, x k) * (1 / 1024) : ℝ) : EReal) := by
    unfold mean
    rw [coe_row_sum, ofBits_1024, Ideal.div_coe hn, ← EReal.coe_mul]
  have hvar : variance (fun k => (x k : EReal))
      = (((∑ k, (x k - (∑ k, x k) * (1 / 1024)) * (x k - (∑ k, x k) * (1 / 1024))) * (1 / 1024) : ℝ) : EReal) := by
    unfold variance
    simp only [hmean, ← EReal.coe_sub, ← EReal.coe_mul]
    rw [coe_row_sum, ofBits_1024, Ideal.div_coe hn, ← EReal.coe_mul]
  unfold kernelNormed normed
  dsimp only
  rw [hmean, hvar, he, ofBits_inv_1024, coe_row_sum]
  simp only [← EReal.coe_mul]
  rw [coe_row_sum]
  simp only [← EReal.coe_mul, ← EReal.coe_sub, ← EReal.coe_add]
  rw [hv]
  generalize hV : (∑ k, (x k - (∑ k, x k) * (1 / 1024)) * (x k - (∑ k, x k) * (1 / 1024))) * (1 / 1024) = v
  have h0 : 0 ≤ v := hV ▸ mul_nonneg (Finset.sum_nonneg fun k _ => mul_self_nonneg _) (by norm_num)
  have hp : 0 < v + ε := by linarith
  rw [Ideal.rsqrt_coe, if_neg hp.le.not_gt, if_neg hp.ne', Ideal.sqrt_coe, if_neg hp.le.not_gt,
    Ideal.div_coe (Real.sqrt_pos.mpr hp).ne']
  simp only [one_div]

end Cert.LayerNormed
-- ==== Proof.Pre.lean ====
module

public import proofs.«01_k».proof.Proof.Spec
public import proofs.«01_k».proof.Proof.Consts
public import proofs.«01_k».proof.Proof.Gen.Pre_finite_and_days
public import Idealize.ShloMosaic.Lib.Pointwise
public import Idealize.ShloMosaic.Lib.Tactic.WordOmega

@[expose] public section

/-!
# What the precondition says

Each entry of the arrays that are summed is a real number, and each day is one of the seven.
-/

set_option maxRecDepth 16384

noncomputable section

namespace Cert.LayerNormed

open Idealize.ShloMosaic Cert.Pre_finite_and_days Cert.Pre_finite_and_days.Gen

/-- An extended real that is a real number. -/
def IsReal (x : EReal) : Prop := ∃ r : ℝ, x = (r : EReal)

/-- A number whose absolute value is below infinity is real. -/
theorem isReal_of_abs_lt (x : EReal) (h : max x (-x) < ⊤) : IsReal x := by
  induction x with
  | bot => simp at h
  | top => simp at h
  | coe r => exact ⟨r, rfl⟩

/-- The comparison that the precondition prints, read: the entry is real. -/
theorem isReal_of_bit (x : EReal)
    (h : Ideal.cmp .olt (max x (-x)) (Ideal.ofBits .f32 0x7F800000#32) = 1#1) : IsReal x := by
  rw [ofBits_inf] at h
  refine isReal_of_abs_lt x ?_
  by_contra hn
  simp [Ideal.cmp, hn] at h

/-- A word that is at least 0 and below 7, compared as signed, is below 7. -/
theorem day_of_bit (d : BitVec 32) (h : IntOp.andi (IntOp.cmpi .sge d 0#32) (IntOp.cmpi .slt d 7#32) = 1#1) :
    d.toNat < 7 := by
  word_omega

/-- The precondition on the arrays: real entries, and days in `0 … 6`. -/
structure Fine (x : FVec Ideal S4x4096x1024 .f32) (t : FVec Ideal S4x4096 .f32) (d : IVec S4x4096 32)
    (p : FVec Ideal S4096x1024 .f32) (w : FVec Ideal S2x1024 .f32) (b : FVec Ideal S1024 .f32)
    (e : FVec Ideal S7x1024 .f32) : Prop where
  hidden : ∀ i, IsReal (x i)
  time : ∀ i, IsReal (t i)
  day : ∀ i, (d i).toNat < 7
  pos : ∀ i, IsReal (p i)
  weights : ∀ i, IsReal (w i)
  bias : ∀ i, IsReal (b i)
  days : ∀ i, IsReal (e i)

/-- The printed precondition, all ones, says so. -/
theorem fine_of_pre (x : FVec Ideal S4x4096x1024 .f32) (t : FVec Ideal S4x4096 .f32) (d : IVec S4x4096 32)
    (p : FVec Ideal S4096x1024 .f32) (w : FVec Ideal S2x1024 .f32) (b : FVec Ideal S1024 .f32)
    (e : FVec Ideal S7x1024 .f32) (g g' : FVec Ideal S1024 .f32)
    (h : (fn x t d p w b e g g').1 = (fun _ => 1#1) ∧ (fn x t d p w b e g g').2.1 = (fun _ => 1#1)
      ∧ (fn x t d p w b e g g').2.2.1 = (fun _ => 1#1) ∧ (fn x t d p w b e g g').2.2.2.1 = (fun _ => 1#1)
      ∧ (fn x t d p w b e g g').2.2.2.2.1 = (fun _ => 1#1) ∧ (fn x t d p w b e g g').2.2.2.2.2.1 = (fun _ => 1#1)
      ∧ (fn x t d p w b e g g').2.2.2.2.2.2 = (fun _ => 1#1)) : Fine x t d p w b e := by
  obtain ⟨h0, h1, h2, h3, h4, h5, h6⟩ := h
  exact ⟨fun i => isReal_of_bit _ (congrFun h0 i), fun i => isReal_of_bit _ (congrFun h1 i),
    fun i => day_of_bit _ (congrFun h2 i), fun i => isReal_of_bit _ (congrFun h3 i),
    fun i => isReal_of_bit _ (congrFun h4 i), fun i => isReal_of_bit _ (congrFun h5 i),
    fun i => isReal_of_bit _ (congrFun h6 i)⟩

/-- A sum of real numbers is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- A product of real numbers is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The sine of a real number is real. -/
theorem IsReal.sin {x : EReal} (hx : IsReal x) : IsReal (Ideal.sin x) := by
  obtain ⟨r, rfl⟩ := hx
  exact ⟨Real.sin r, rfl⟩

/-- The cosine of a real number is real. -/
theorem IsReal.cos {x : EReal} (hx : IsReal x) : IsReal (Ideal.cos x) := by
  obtain ⟨r, rfl⟩ := hx
  exact ⟨Real.cos r, rfl⟩

/-- A sum of real embeddings is real. -/
theorem summed_real {x p t w₀ w₁ b e : EReal} (hx : IsReal x) (hp : IsReal p) (ht : IsReal t) (h₀ : IsReal w₀)
    (h₁ : IsReal w₁) (hb : IsReal b) (he : IsReal e) : IsReal (summed x p t w₀ w₁ b e) :=
  have ha : IsReal (angle t) := ht.mul ofBits_two_pi
  (((hx.add hp).add ((ha.sin.mul h₀).add (ha.cos.mul h₁))).add hb).add he

end Cert.LayerNormed
-- ==== Proof.Block.lean ====
module

public import proofs.«01_k».proof.Proof.Spec
public import proofs.«01_k».proof.Proof.Gen.KernelIdeal.Frame
public import Idealize.ShloMosaic.Lib.Pointwise
public import Idealize.ShloMosaic.Lib.Tactic.WordOmega

@[expose] public section

/-!
# What one block of the kernel computes

The body weighs the sixteen rows of one table by sine, cosine and two ones, adds hidden states and positions, and
normalises each row. The sixteen weights leave four rows, so an entry of the sum is the reference's.
-/

set_option maxRecDepth 16384

noncomputable section

namespace Cert.LayerNormed

open Idealize.ShloMosaic Cert.KernelIdeal Cert.KernelIdeal.Gen

/-- The weight of the table's row `k`, as the kernel selects it: `s`, `c`, and a one at the day's row and at row 9. -/
def weight (s c : EReal) (d : BitVec 32) (k : Fin 16) : EReal :=
  Scalar.select (IntOp.cmpi .eq (BitVec.ofNat 32 k.val) 0#32) s
    (Scalar.select (IntOp.cmpi .eq (BitVec.ofNat 32 k.val) 1#32) c
      ((FloatOps.sitofp .f32 (BitVec.setWidth 32 (IntOp.ori (IntOp.cmpi .eq (BitVec.ofNat 32 k.val) (IntOp.addi d 2#32))
        (IntOp.cmpi .eq (BitVec.ofNat 32 k.val) 9#32))) : Ideal .f32)))

/-- The row of the table that holds the day's embedding. -/
def dayLine (d : BitVec 32) : Fin 16 := ⟨(dayRow d).val + 2, by have := (dayRow d).isLt; omega⟩

/-- The bit of the two ones: set at the day's row and at row 9. -/
theorem oneBit : ∀ (n : Fin 7) (k : Fin 16),
    IntOp.ori (IntOp.cmpi .eq (BitVec.ofNat 32 k.val) (IntOp.addi (BitVec.ofNat 32 n.val) 2#32))
      (IntOp.cmpi .eq (BitVec.ofNat 32 k.val) 9#32)
      = if k.val = n.val + 2 ∨ k.val = 9 then 1#1 else 0#1 := by
  decide +kernel

/-- The bit that row `k` is the first. -/
theorem firstBit : ∀ k : Fin 16, IntOp.cmpi .eq (BitVec.ofNat 32 k.val) 0#32 = if k.val = 0 then 1#1 else 0#1 := by
  decide +kernel

/-- The bit that row `k` is the second. -/
theorem secondBit : ∀ k : Fin 16, IntOp.cmpi .eq (BitVec.ofNat 32 k.val) 1#32 = if k.val = 1 then 1#1 else 0#1 := by
  decide +kernel

/-- A day in `0 … 6` is the word of its row's number. -/
theorem day_eq (d : BitVec 32) (hd : d.toNat < 7) : d = BitVec.ofNat 32 (dayRow d).val := by
  apply BitVec.eq_of_toNat_eq
  show d.toNat = _
  simp only [BitVec.toNat_ofNat, dayRow]
  omega

/-- The integer one is the number one. -/
theorem one_float : (FloatOps.sitofp .f32 (1#32 : BitVec 32) : Ideal .f32) = (1 : EReal) := by
  show ((((1#32 : BitVec 32).toInt : ℝ)) : EReal) = 1
  have : (1#32 : BitVec 32).toInt = 1 := by decide
  rw [this]; simp

/-- The integer zero is the number zero. -/
theorem zero_float : (FloatOps.sitofp .f32 (0#32 : BitVec 32) : Ideal .f32) = (0 : EReal) := by
  show ((((0#32 : BitVec 32).toInt : ℝ)) : EReal) = 0
  have : (0#32 : BitVec 32).toInt = 0 := by decide
  rw [this]; simp

/-- A weighed row as four terms, each standing at one row only. -/
theorem weight_split (s c : EReal) (d : BitVec 32) (hd : d.toNat < 7) (w : Fin 16 → EReal) (k : Fin 16) :
    weight s c d k * w k = (if k = 0 then s * w k else 0) + (if k = 1 then c * w k else 0)
      + (if k = dayLine d then w k else 0) + (if k = 9 then w k else 0) := by
  have hn := (dayRow d).isLt
  have hw := day_eq d hd
  unfold weight
  rw [hw, oneBit, ← hw, firstBit, secondBit]
  have e0 : (k = 0) = (k.val = 0) := propext Fin.ext_iff
  have e1 : (k = 1) = (k.val = 1) := propext Fin.ext_iff
  have e9 : (k = 9) = (k.val = 9) := propext Fin.ext_iff
  have ed : (k = dayLine d) = (k.val = (dayRow d).val + 2) := propext Fin.ext_iff
  simp only [e0, e1, e9, ed]
  by_cases h0 : k.val = 0
  · simp [h0, Scalar.select]
  by_cases h1 : k.val = 1
  · simp [h1, Scalar.select]
  by_cases h9 : k.val = 9
  · have : ¬ 9 = (dayRow d).val + 2 := by omega
    simp [h9, this, Scalar.select, one_float]
  by_cases h : k.val = (dayRow d).val + 2
  · rw [if_neg h0, if_neg h1, if_pos (Or.inl h), if_neg h0, if_neg h1, if_pos h, if_neg h9]
    simp [Scalar.select, one_float]
  · simp [h0, h1, h9, h, Scalar.select, zero_float]

/-- The weighed sum of the sixteen rows is sine and cosine by the first two rows, plus the day's row, plus row 9. -/
theorem weighed (s c : EReal) (d : BitVec 32) (hd : d.toNat < 7) (w : Fin 16 → EReal) :
    ∑ k, weight s c d k * w k = s * w 0 + c * w 1 + w (dayLine d) + w 9 := by
  simp only [weight_split s c d hd w, Finset.sum_add_distrib, Finset.sum_ite_eq', Finset.mem_univ, if_true]

/-- The kernel adds the day before the bias, the reference the bias before the day. -/
theorem sum_order (a s c e b : EReal) : a + (s + c + e + b) = a + (s + c) + b + e := by
  ac_rfl

/-- An entry of the block's sums. -/
theorem pay2_at (x : FVec Ideal S1x2048x1024 .f32) (p : FVec Ideal S2048x1024 .f32) (t : FVec Ideal S1x1x1x2048 .f32)
    (d : IVec S1x1x1x2048 32) (w : FVec Ideal S16x1024 .bf16) (r : Fin 2048) (j : Fin 1024)
    (hd : (d (ix4 0 0 0 r)).toNat < 7) :
    (k0_pay2 (F := Ideal) x p t d w (ix2 r j) : EReal) = summed (x (ix3 0 r j)) (p (ix2 r j)) (t (ix4 0 0 0 r)) (w (ix2 0 j)) (w (ix2 1 j))
      (w (ix2 9 j)) (w (ix2 (dayLine (d (ix4 0 0 0 r))) j)) := by
  pointwise [k0_pay2]
  refine (congrArg (x (ix3 0 r j) + p (ix2 r j) + ·) (weighed (Ideal.sin (angle (t (ix4 0 0 0 r))))
    (Ideal.cos (angle (t (ix4 0 0 0 r)))) (d (ix4 0 0 0 r)) hd fun k => w (ix2 k j))).trans ?_
  exact sum_order _ _ _ _ _

/-- An entry of the block the body stores: the row of sums, normalised in the kernel's order. -/
theorem pay1_at (h : FVec Ideal S2048x1024 .f32) (g b : FVec Ideal S1x1024 .f32) (y : S1x2048x1024.Idx) :
    k0_pay1 h g b y = kernelNormed (fun k => h (ix2 (y 1) k)) (g (ix2 0 (y 2))) (b (ix2 0 (y 2))) (y 2) := by
  pointwise [k0_pay1]
  rfl

end Cert.LayerNormed
-- ==== Proof.Host.lean ====
module

public import proofs.«01_k».proof.Proof.Block
public import Idealize.ShloMosaic.Lib.Pipeline.ValueKit
public import Idealize.ShloMosaic.Lib.StableHlo.ReadAt

@[expose] public section

/-!
# The arrays the host hands to the kernel

Before the kernel runs, the time-of-day weights, the days' embeddings, the bias and six rows of zeros are laid one
under the other in a table of sixteen rows; times and days are reshaped to blocks of 2048; scale and shift become rows.
-/

set_option maxRecDepth 16384

noncomputable section

namespace Cert.LayerNormed

open Idealize.ShloMosaic Idealize.ShloMosaic.TcCoe Idealize.SL.Sem Cert.KernelIdeal Cert.KernelIdeal.Gen

/-- The table of sixteen rows: weights `w`, days `e`, bias `b`, zeros. -/
def table (w : FVec Ideal S2x1024 .f32) (b : FVec Ideal S1024 .f32) (e : FVec Ideal S7x1024 .f32) :
    FVec Ideal S16x1024 .bf16 :=
  truncf .bf16
    (concatenate S16x1024 0
      [⟨S2x1024, w⟩, ⟨S7x1024, e⟩, ⟨S1x1024, shapeCast S1x1024 b shapeCasts_S1024_S1x1024⟩,
        ⟨S6x1024, broadcastInDim S6x1024 ![] bcast_S_S6x1024 (constant S_ .f32 0x00000000#32)⟩]
      concatenates_S2x1024_S7x1024_S1x1024_S6x1024_S16x1024_d0) bitsLt_bf16_f32

variable (w : FVec Ideal S2x1024 .f32) (b : FVec Ideal S1024 .f32) (e : FVec Ideal S7x1024 .f32)

/-- An entry of the table, by the piece its row falls in. -/
theorem table_at (k : Fin 16) (j : Fin 1024) : table w b e (ix2 k j)
    = if h : k.val < 2 then w (ix2 ⟨k.val, h⟩ j)
      else if h : k.val - 2 < 7 then e (ix2 ⟨k.val - 2, h⟩ j) else if k.val - 2 - 7 < 1 then b (ix1 j) else 0 := by
  pointwise [table]
  rfl

/-- The first row is the weights' first. -/
theorem table_zero (j : Fin 1024) : table w b e (ix2 0 j) = w (ix2 0 j) :=
  (table_at w b e 0 j).trans (dif_pos (by decide))

/-- The second row is the weights' second. -/
theorem table_one (j : Fin 1024) : table w b e (ix2 1 j) = w (ix2 1 j) :=
  (table_at w b e 1 j).trans (dif_pos (by decide))

/-- Row 9 is the bias. -/
theorem table_nine (j : Fin 1024) : table w b e (ix2 9 j) = b (ix1 j) :=
  (table_at w b e 9 j).trans ((dif_neg (by decide)).trans ((dif_neg (by decide)).trans (if_pos (by decide))))

/-- The day's row is the day's embedding. -/
theorem table_day (d : BitVec 32) (j : Fin 1024) : table w b e (ix2 (dayLine d) j) = e (ix2 (dayRow d) j) := by
  have hd := (dayRow d).isLt
  refine (table_at w b e (dayLine d) j).trans ((dif_neg ?_).trans (dif_pos ?_))
  · show ¬ (dayRow d).val + 2 < 2
    omega
  · show (dayRow d).val + 2 - 2 < 7
    omega

variable (m : (ℓ : Loc nD τ sig) → Buf (Elt Ideal) ℓ)

/-- The kernel's fifth operand is the table of the arguments. -/
theorem table_eq (c : Dev nD) :
    V m c main_v3 = table (m (c.tc.loc main_arg4)) (m (c.tc.loc main_arg5)) (m (c.tc.loc main_arg6)) := by
  unfold V
  after_reads_simp
  rfl

/-- The grid's point `t` takes sequence `t mod 4` and the half `t / 4` of its positions. -/
theorem idx : ∀ t : Fin cfg0.N, win0_0.index t = ![t.val % 4, t.val / 4, 0] ∧ win0_1.index t = ![t.val / 4, 0]
    ∧ win0_2.index t = ![t.val % 4, t.val / 4, 0, 0] ∧ win0_3.index t = ![t.val % 4, t.val / 4, 0, 0]
    ∧ win0_4.index t = ![0, 0] ∧ win0_5.index t = ![0, 0] ∧ win0_6.index t = ![0, 0]
    ∧ win0_7.index t = ![t.val % 4, t.val / 4, 0] ∧ t.val / 4 < 2 :=
  (by decide +kernel : ∀ t : Fin grid0.N, _)

/-- The sequence of a grid point. -/
def seqOf (t : Fin cfg0.N) : Fin 4 := ⟨t.val % 4, Nat.mod_lt _ (by decide)⟩

/-- The position of row `r` of a grid point's block. -/
def posOf (t : Fin cfg0.N) (r : Fin 2048) : Fin 4096 :=
  ⟨t.val / 4 * 2048 + r.val, by have h := (idx t).2.2.2.2.2.2.2.2; have := r.isLt; omega⟩

variable (c : Dev nD) (t : Fin cfg0.N) (r : Fin 2048) (j : Fin 1024)

/-- The block of hidden states. -/
theorem hidden_at : (iblk m c 0 t (ix3 0 r j) : EReal) = m (c.tc.loc main_arg0) (ix3 (seqOf t) (posOf t r) j) := by
  blk_ext [iblk, V, idx t, seqOf, posOf]

/-- The block of positions. -/
theorem pos_at : (iblk m c 1 t (ix2 r j) : EReal) = m (c.tc.loc main_arg3) (ix2 (posOf t r) j) := by
  blk_ext [iblk, V, idx t, posOf]

/-- The block of times. -/
theorem time_at : (iblk m c 2 t (ix4 0 0 0 r) : EReal) = m (c.tc.loc main_arg1) (ix2 (seqOf t) (posOf t r)) := by
  blk_point [iblk, idx t, seqOf, posOf]

/-- The block of days. -/
theorem day_at : (iblk m c 3 t (ix4 0 0 0 r) : BitVec 32) = m (c.tc.loc main_arg2) (ix2 (seqOf t) (posOf t r)) := by
  blk_point [iblk, idx t, seqOf, posOf]

/-- The table's block is the table. -/
theorem table_blk (k : Fin 16) : (iblk m c 4 t (ix2 k j) : EReal)
    = table (m (c.tc.loc main_arg4)) (m (c.tc.loc main_arg5)) (m (c.tc.loc main_arg6)) (ix2 k j) := by
  rw [← table_eq m c]
  blk_ext [iblk, idx t]

/-- The block of the scale is the scale. -/
theorem scale_at : (iblk m c 5 t (ix2 0 j) : EReal) = m (c.tc.loc main_arg7) (ix1 j) := by
  blk_point [iblk, idx t]

/-- The block of the shift is the shift. -/
theorem shift_at : (iblk m c 6 t (ix2 0 j) : EReal) = m (c.tc.loc main_arg8) (ix1 j) := by
  blk_point [iblk, idx t]

end Cert.LayerNormed
-- ==== Proof.Result.lean ====
module

public import proofs.«01_k».proof.Proof.Host

@[expose] public section

/-!
# What the kernel's result array holds

Each of the eight points of the grid writes the block of one sequence and one half of its positions; together they fill
the array. An entry is the row of sums at its sequence and position, normalised in the kernel's order.
-/

set_option maxRecDepth 16384

noncomputable section

namespace Cert.LayerNormed

open Idealize.ShloMosaic Idealize.ShloMosaic.TcCoe Idealize.SL.Sem Cert.KernelIdeal Cert.KernelIdeal.Gen
open Idealize.ShloMosaic.Pipeline (Dat)

/-- The row of sums at sequence `a` and position `s`, over the arguments. -/
def sumRow (x : FVec Ideal S4x4096x1024 .f32) (t : FVec Ideal S4x4096 .f32) (d : IVec S4x4096 32)
    (p : FVec Ideal S4096x1024 .f32) (w : FVec Ideal S2x1024 .f32) (b : FVec Ideal S1024 .f32)
    (e : FVec Ideal S7x1024 .f32) (a : Fin 4) (s : Fin 4096) (j : Fin 1024) : EReal :=
  summed (x (ix3 a s j)) (p (ix2 s j)) (t (ix2 a s)) (w (ix2 0 j)) (w (ix2 1 j)) (b (ix1 j))
    (e (ix2 (dayRow (d (ix2 a s))) j))

variable (m : (ℓ : Loc nD τ sig) → Buf (Elt Ideal) ℓ) (c : Dev nD)

/-- The row of sums over the kernel's arguments in memory. -/
def memRow (a : Fin 4) (s : Fin 4096) : Fin 1024 → EReal :=
  sumRow (m (c.tc.loc main_arg0)) (m (c.tc.loc main_arg1)) (m (c.tc.loc main_arg2)) (m (c.tc.loc main_arg3))
    (m (c.tc.loc main_arg4)) (m (c.tc.loc main_arg5)) (m (c.tc.loc main_arg6)) a s

/-- The array the kernel fills: every row of sums, normalised in the kernel's order. -/
def kernelArray : FVec Ideal S4x4096x1024 .f32 := fun i =>
  kernelNormed (memRow m c (i 0) (i 1)) ((m (c.tc.loc main_arg7) : FVec Ideal S1024 .f32) (ix1 (i 2)))
    ((m (c.tc.loc main_arg8) : FVec Ideal S1024 .f32) (ix1 (i 2))) (i 2)

/-- The block of sums a grid point works on is the rows of sums at the point's sequence and positions. -/
theorem sums_at (t : Fin cfg0.N) (r : Fin 2048) (j : Fin 1024)
    (hd : ∀ a s, ((m (c.tc.loc main_arg2) : IVec S4x4096 32) (ix2 a s)).toNat < 7) :
    (k0_pay2 (iblk m c 0 t) (iblk m c 1 t) (iblk m c 2 t) (iblk m c 3 t) (iblk m c 4 t) (ix2 r j) : EReal)
      = memRow m c (seqOf t) (posOf t r) j := by
  have hday := day_at m c t r
  refine (pay2_at (iblk m c 0 t) (iblk m c 1 t) (iblk m c 2 t) (iblk m c 3 t) (iblk m c 4 t) r j ?_).trans ?_
  · rw [hday]; exact hd _ _
  · rw [hday, hidden_at, pos_at, time_at, table_blk, table_blk, table_blk, table_blk, table_zero, table_one, table_nine,
      table_day]
    rfl

/-- What a grid point stores, at an index of its block, is the array at the index's place. -/
theorem point (t : Fin cfg0.N) (y : S1x2048x1024.Idx)
    (hd : ∀ a s, ((m (c.tc.loc main_arg2) : IVec S4x4096 32) (ix2 a s)).toNat < 7) :
    (k0_pay1 (k0_pay2 (iblk m c 0 t) (iblk m c 1 t) (iblk m c 2 t) (iblk m c 3 t) (iblk m c 4 t)) (iblk m c 5 t)
      (iblk m c 6 t) y : EReal) = kernelArray m c (((cfg0.win 7).blk t).view.emb y) := by
  have he : ((cfg0.win 7).blk t).view.emb y = ix3 (seqOf t) (posOf t (y 1)) (y 2) := by
    blk_ext [idx t, seqOf, posOf]
  rw [he, pay1_at]
  refine (congrArg (fun h => kernelNormed h _ _ _) (funext fun k => sums_at m c t (y 1) k hd)).trans ?_
  refine (congrArg₂ (fun g b => kernelNormed _ g b _) (scale_at m c t (y 2)) (shift_at m c t (y 2))).trans ?_
  rfl

/-- The result array after the kernel's run. -/
theorem final (hd : ∀ a s, ((m (c.tc.loc main_arg2) : IVec S4x4096 32) (ix2 a s)).toNat < 7) :
    (dats m 0 c).arrAt 7 (cfgs 0).N = kernelArray m c := by
  refine (dats m 0 c).arrAt_eq_of_covers 7 _ (by decide +kernel) fun t _ y => ?_
  blk_simp
  rw [after0_7]; frame_out
  exact point m c t y hd

end Cert.LayerNormed
-- ==== Proof.Lookup.lean ====
module

public import proofs.«01_k».proof.Proof.Spec
public import proofs.«01_k».proof.Proof.Gen.ReferenceIdeal
public import Idealize.ShloMosaic.Lib.Pointwise
public import Idealize.ShloMosaic.Lib.Tactic.WordOmega

@[expose] public section

/-!
# The reference's two table lookups

`jnp.take` counts a negative index from the table's end, reads the rows, and fills with NaN where the index is outside
the table. At the positions `0 … 4095` the lookup is the table itself; at a day in `0 … 6` it is the day's row.
-/

set_option maxRecDepth 16384

noncomputable section

namespace Cert.LayerNormed

open Idealize.ShloMosaic Cert.ReferenceIdeal Cert.ReferenceIdeal.Gen

/-- The rows asked of the table of positions: `0 … 4095` in a column. -/
def posIndex : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32))) (iotaInDim S4096 32 0))

/-- The table of positions `p` looked up at `0 … 4095`. -/
def posRows (p : FVec Ideal S4096x1024 .f32) : FVec Ideal S4096x1024 .f32 :=
  select
    (broadcastInDim S4096x1024 ![0] bcast_S4096_S4096x1024_0
      (Host.reduce IntOp.andi
        (andi (cmpi .sge posIndex (broadcastInDim S4096x1 ![] bcast_S_S4096x1 (constantI S_ 32 0#32)))
          (cmpi .sle posIndex (broadcastInDim S4096x1 ![0, 1] bcast_S1x1_S4096x1_0_1
            (broadcastInDim S1x1 ![1] bcast_S1_S1x1_1 (constantI S1 32 4095#32)))))
        (constantI S_ 1 1#1) reducesTo_S4096x1_S4096_d1 h_S_))
    (Host.gather gather_S4096x1024_S4096x1_S4096x1024_1_0_n_n_0_1_11024 p posIndex)
    (broadcastInDim S4096x1024 ![] bcast_S_S4096x1024 (constant S_ .f32 0x7FC00000#32))

/-- The rows asked of the table of days. -/
def dayIndex (d : IVec S4x4096 32) : IVec S4x4096x1 32 :=
  broadcastInDim S4x4096x1 ![0, 1] bcast_S4x4096_S4x4096x1_0_1
    (select (cmpi .slt d (broadcastInDim S4x4096 ![] bcast_S_S4x4096 (constantI S_ 32 0#32)))
      (addi d (broadcastInDim S4x4096 ![] bcast_S_S4x4096 (constantI S_ 32 7#32))) d)

/-- The table of days `e` looked up at `d`. -/
def dayRows (d : IVec S4x4096 32) (e : FVec Ideal S7x1024 .f32) : FVec Ideal S4x4096x1024 .f32 :=
  select
    (broadcastInDim S4x4096x1024 ![0, 1] bcast_S4x4096_S4x4096x1024_0_1
      (Host.reduce IntOp.andi
        (andi (cmpi .sge (dayIndex d) (broadcastInDim S4x4096x1 ![] bcast_S_S4x4096x1 (constantI S_ 32 0#32)))
          (cmpi .sle (dayIndex d) (broadcastInDim S4x4096x1 ![0, 1, 2] bcast_S1x1x1_S4x4096x1_0_1_2
            (broadcastInDim S1x1x1 ![2] bcast_S1_S1x1x1_2 (constantI S1 32 6#32)))))
        (constantI S_ 1 1#1) reducesTo_S4x4096x1_S4x4096_d2 h_S_))
    (Host.gather gather_S7x1024_S4x4096x1_S4x4096x1024_2_0_n_n_0_2_11024 e (dayIndex d))
    (broadcastInDim S4x4096x1024 ![] bcast_S_S4x4096x1024 (constant S_ .f32 0x7FC00000#32))

/-- The lookup of positions, row `s`: the table's row at the index asked for, read signed and kept inside the table. -/
theorem pos_gather (p : FVec Ideal S4096x1024 .f32) (q : IVec S4096x1 32) (s : Fin 4096) (j : Fin 1024) :
    Host.gather gather_S4096x1024_S4096x1_S4096x1024_1_0_n_n_0_1_11024 p q (ix2 s j)
      = p (ix2 ⟨min (q (ix2 s 0)).toInt.toNat 4095, by omega⟩ j) := by
  unfold Host.gather
  congr 1
  funext a
  refine Fin.ext ?_
  have hq : gather_S4096x1024_S4096x1_S4096x1024_1_0_n_n_0_1_11024.siIdx (ix2 s j) ⟨0, by decide⟩ = ix2 s 0 := by
    funext b
    match b with
    | ⟨0, _⟩ => rfl
    | ⟨1, _⟩ => rfl
  match a with
  | ⟨0, _⟩ => exact congrArg (fun i => min (q i).toInt.toNat 4095) hq
  | ⟨1, _⟩ => exact Nat.zero_add _

/-- The lookup of days at sequence `a`, position `s`: the table's row at the index asked for, read signed and kept
    inside the table. -/
theorem day_gather (e : FVec Ideal S7x1024 .f32) (q : IVec S4x4096x1 32) (a : Fin 4) (s : Fin 4096) (j : Fin 1024) :
    Host.gather gather_S7x1024_S4x4096x1_S4x4096x1024_2_0_n_n_0_2_11024 e q (ix3 a s j)
      = e (ix2 ⟨min (q (ix3 a s 0)).toInt.toNat 6, by omega⟩ j) := by
  unfold Host.gather
  congr 1
  funext b
  refine Fin.ext ?_
  have hq : gather_S7x1024_S4x4096x1_S4x4096x1024_2_0_n_n_0_2_11024.siIdx (ix3 a s j) ⟨0, by decide⟩ = ix3 a s 0 := by
    funext b
    match b with
    | ⟨0, _⟩ => rfl
    | ⟨1, _⟩ => rfl
    | ⟨2, _⟩ => rfl
  match b with
  | ⟨0, _⟩ => exact congrArg (fun i => min (q i).toInt.toNat 6) hq
  | ⟨1, _⟩ => exact Nat.zero_add _

/-- Row `s` of the column of positions asks for row `s`. -/
theorem posIndex_at (s : Fin 4096) (k : Fin 1) : posIndex (ix2 s k) = BitVec.ofNat 32 s.val := by
  pointwise [posIndex]
  have h : IntOp.cmpi .slt (BitVec.ofNat 32 s.val) 0#32 = 0#1 := by
    word_omega
  rw [h]; rfl

/-- Looked up at `0 … 4095` the table of positions is itself. -/
theorem posRows_at (p : FVec Ideal S4096x1024 .f32) (s : Fin 4096) (j : Fin 1024) :
    posRows p (ix2 s j) = p (ix2 s j) := by
  have hs := s.isLt
  pointwise [posRows]
  rw [Finset.univ_unique, Finset.fold_singleton, posIndex_at, pos_gather]
  have h₁ : IntOp.cmpi .sge (BitVec.ofNat 32 s.val) 0#32 = 1#1 := by word_omega
  have h₂ : IntOp.cmpi .sle (BitVec.ofNat 32 s.val) 4095#32 = 1#1 := by word_omega
  rw [h₁, h₂]
  show p _ = _
  congr 2
  refine Fin.ext ?_
  show min (posIndex (ix2 s 0)).toInt.toNat 4095 = s.val
  rw [posIndex_at]
  have : (BitVec.ofNat 32 s.val).toInt = s.val := by
    rw [BitVec.toInt_eq_toNat_of_lt] <;> simp <;> omega
  omega

/-- Looked up at a day in `0 … 6` the table of days gives the day's row. -/
theorem dayRows_at (d : IVec S4x4096 32) (e : FVec Ideal S7x1024 .f32) (a : Fin 4) (s : Fin 4096) (j : Fin 1024)
    (hd : (d (ix2 a s)).toNat < 7) : dayRows d e (ix3 a s j) = e (ix2 (dayRow (d (ix2 a s))) j) := by
  have hi : ∀ k : Fin 1, dayIndex d (ix3 a s k) = d (ix2 a s) := fun k => by
    pointwise [dayIndex]
    generalize d (ix2 a s) = w at hd ⊢
    have h : IntOp.cmpi .slt w 0#32 = 0#1 := by word_omega
    rw [h]; rfl
  pointwise [dayRows]
  rw [Finset.univ_unique, Finset.fold_singleton, hi, day_gather]
  have h₁ : IntOp.cmpi .sge (d (ix2 a s)) 0#32 = 1#1 := by word_omega
  have h₂ : IntOp.cmpi .sle (d (ix2 a s)) 6#32 = 1#1 := by word_omega
  rw [h₁, h₂]
  show e _ = _
  congr 2
  refine Fin.ext ?_
  show min (dayIndex d (ix3 a s 0)).toInt.toNat 6 = (d (ix2 a s)).toNat % 7
  rw [hi]
  have : (d (ix2 a s)).toInt = (d (ix2 a s)).toNat := BitVec.toInt_eq_toNat_of_lt (by omega)
  omega

end Cert.LayerNormed
-- ==== Proof.RefValue.lean ====
module

public import proofs.«01_k».proof.Proof.Lookup
public import proofs.«01_k».proof.Proof.Gen.ReferenceIdeal.Run

@[expose] public section

/-!
# What the reference computes

The reference's result, as a term over whole arrays, is cut in two (the sums of embeddings; the layer norm of an
array) and each half is read at an index.
-/

set_option maxRecDepth 16384

noncomputable section

namespace Cert.LayerNormed

open Idealize.ShloMosaic Idealize.ShloMosaic.TcCoe Idealize.SL.Sem Cert.ReferenceIdeal Cert.ReferenceIdeal.Gen

/-- The array of sums that the reference normalises. -/
def refSums (x : FVec Ideal S4x4096x1024 .f32) (t : FVec Ideal S4x4096 .f32) (d : IVec S4x4096 32)
    (p : FVec Ideal S4096x1024 .f32) (w : FVec Ideal S2x1024 .f32) (b : FVec Ideal S1024 .f32)
    (e : FVec Ideal S7x1024 .f32) : FVec Ideal S4x4096x1024 .f32 :=
  let turn : FVec Ideal S4x4096x1 .f32 := mulf (broadcastInDim S4x4096x1 ![0, 1] bcast_S4x4096_S4x4096x1_0_1 t)
    (broadcastInDim S4x4096x1 ![] bcast_S_S4x4096x1 (constant S_ .f32 0x40C90FDB#32))
  addf (addf (addf
    (addf x (broadcastInDim S4x4096x1024 ![0, 1, 2] bcast_S1x4096x1024_S4x4096x1024_0_1_2
      (broadcastInDim S1x4096x1024 ![1, 2] bcast_S4096x1024_S1x4096x1024_1_2 (posRows p))))
    (Host.dotGeneral dot_S4x4096x2_S2x1024_S4x4096x1024_2_0_01_1_n_n none
      (concatenate S4x4096x2 2 [⟨S4x4096x1, Host.sin turn⟩, ⟨S4x4096x1, Host.cos turn⟩]
        concatenates_S4x4096x1_S4x4096x1_S4x4096x2_d2) w))
    (broadcastInDim S4x4096x1024 ![0, 1, 2] bcast_S1x1x1024_S4x4096x1024_0_1_2
      (broadcastInDim S1x1x1024 ![2] bcast_S1024_S1x1x1024_2 b)))
    (dayRows d e)

/-- The rows' sums of an array over 1024. -/
def refMean (h : FVec Ideal S4x4096x1024 .f32) : FVec Ideal S4x4096x1 .f32 :=
  Host.divf (broadcastInDim S4x4096x1 ![0, 1] bcast_S4x4096_S4x4096x1_0_1
      (Host.reduceAdd h (constant S_ .f32 0x00000000#32) reducesTo_S4x4096x1024_S4x4096_d2 h_S_))
    (broadcastInDim S4x4096x1 ![] bcast_S_S4x4096x1 (constant S_ .f32 0x44800000#32))

/-- An array less its rows' means. -/
def refCentred (h : FVec Ideal S4x4096x1024 .f32) : FVec Ideal S4x4096x1024 .f32 :=
  subf h (broadcastInDim S4x4096x1024 ![0, 1, 2] bcast_S4x4096x1_S4x4096x1024_0_1_2 (refMean h))

/-- The reference's layer norm of an array. -/
def refNormed (h : FVec Ideal S4x4096x1024 .f32) (g b : FVec Ideal S1024 .f32) : FVec Ideal S4x4096x1024 .f32 :=
  addf (mulf
    (Host.divf (refCentred h) (broadcastInDim S4x4096x1024 ![0, 1, 2] bcast_S4x4096x1_S4x4096x1024_0_1_2
      (Host.sqrt (addf (refMean (mulf (refCentred h) (refCentred h)))
        (broadcastInDim S4x4096x1 ![] bcast_S_S4x4096x1 (constant S_ .f32 0x2B8CBCCC#32))))))
    (broadcastInDim S4x4096x1024 ![0, 1, 2] bcast_S1x1x1024_S4x4096x1024_0_1_2
      (broadcastInDim S1x1x1024 ![2] bcast_S1024_S1x1x1024_2 g)))
    (broadcastInDim S4x4096x1024 ![0, 1, 2] bcast_S1x1x1024_S4x4096x1024_0_1_2
      (broadcastInDim S1x1x1024 ![2] bcast_S1024_S1x1x1024_2 b))

/-- An entry of the array of sums, for a day in `0 … 6`. -/
theorem refSums_at (x : FVec Ideal S4x4096x1024 .f32) (t : FVec Ideal S4x4096 .f32) (d : IVec S4x4096 32)
    (p : FVec Ideal S4096x1024 .f32) (w : FVec Ideal S2x1024 .f32) (b : FVec Ideal S1024 .f32)
    (e : FVec Ideal S7x1024 .f32) (a : Fin 4) (s : Fin 4096) (j : Fin 1024) (hd : (d (ix2 a s)).toNat < 7) :
    refSums x t d p w b e (ix3 a s j)
      = summed (x (ix3 a s j)) (p (ix2 s j)) (t (ix2 a s)) (w (ix2 0 j)) (w (ix2 1 j)) (b (ix1 j))
          (e (ix2 (dayRow (d (ix2 a s))) j)) := by
  pointwise [refSums]
  rw [Finset.univ_unique, Finset.sum_singleton, Finset.sum_singleton, posRows_at, dayRows_at d e a s j hd]
  rfl

/-- A row's sum over 1024 is the row's mean. -/
theorem refMean_at (h : FVec Ideal S4x4096x1024 .f32) (a : Fin 4) (s : Fin 4096) (k : Fin 1) :
    refMean h (ix3 a s k) = mean fun j => h (ix3 a s j) := by
  pointwise [refMean]
  rfl

/-- An entry less its row's mean. -/
theorem refCentred_at (h : FVec Ideal S4x4096x1024 .f32) (a : Fin 4) (s : Fin 4096) (j : Fin 1024) :
    refCentred h (ix3 a s j) = h (ix3 a s j) - mean fun k => h (ix3 a s k) := by
  pointwise [refCentred]
  rw [refMean_at]

/-- The reference's layer norm at an entry: the row of sums, normalised. -/
theorem refNormed_at (h : FVec Ideal S4x4096x1024 .f32) (g b : FVec Ideal S1024 .f32) (a : Fin 4) (s : Fin 4096)
    (j : Fin 1024) : refNormed h g b (ix3 a s j) = normed (fun k => h (ix3 a s k)) (g (ix1 j)) (b (ix1 j)) j := by
  have hm : refMean (mulf (refCentred h) (refCentred h)) (ix3 a s 0) = variance fun k => h (ix3 a s k) := by
    rw [refMean_at]
    pointwise
    simp only [refCentred_at]
    rfl
  pointwise [refNormed]
  rw [refCentred_at, hm]
  rfl

variable (m : (ℓ : Loc nD τ sig) → Buf (Elt Ideal) ℓ)

/-- The reference's result is the layer norm of the array of sums. -/
theorem ref_eq (c : Dev nD) : Value.res_out0 m c = refNormed
    (refSums (m (c.tc.loc main_arg0)) (m (c.tc.loc main_arg1)) (m (c.tc.loc main_arg2)) (m (c.tc.loc main_arg3))
      (m (c.tc.loc main_arg4)) (m (c.tc.loc main_arg5)) (m (c.tc.loc main_arg6)))
    (m (c.tc.loc main_arg7)) (m (c.tc.loc main_arg8)) := by
  unfold Value.res_out0 Value.res_main_v41
  rfl

end Cert.LayerNormed
-- ==== Proof.Equation.lean ====
module

public import proofs.«01_k».proof.Proof.Norm
public import proofs.«01_k».proof.Proof.Pre
public import proofs.«01_k».proof.Proof.Result
public import proofs.«01_k».proof.Proof.RefValue

@[expose] public section

/-!
# The equation of kernel and reference

Over arrays that meet the precondition, the kernel's array is the reference's: the rows of sums are the same and real,
and on a real row the two layer norms agree.
-/

set_option maxRecDepth 16384

noncomputable section

namespace Cert.LayerNormed

open Idealize.ShloMosaic Idealize.ShloMosaic.TcCoe Idealize.SL.Sem Cert.KernelIdeal Cert.KernelIdeal.Gen

/-- The reference's array, at an entry, is the row of sums normalised in the kernel's order. -/
theorem ref_entry (x : FVec Ideal S4x4096x1024 .f32) (t : FVec Ideal S4x4096 .f32) (d : IVec S4x4096 32)
    (p : FVec Ideal S4096x1024 .f32) (w : FVec Ideal S2x1024 .f32) (b : FVec Ideal S1024 .f32)
    (e : FVec Ideal S7x1024 .f32) (γ β : FVec Ideal S1024 .f32) (h : Fine x t d p w b e) (a : Fin 4) (s : Fin 4096)
    (j : Fin 1024) : refNormed (refSums x t d p w b e) γ β (ix3 a s j)
      = kernelNormed (sumRow x t d p w b e a s) (γ (ix1 j)) (β (ix1 j)) j := by
  have hr : ∀ k, IsReal (sumRow x t d p w b e a s k) := fun k =>
    summed_real (h.hidden _) (h.pos _) (h.time _) (h.weights _) (h.weights _) (h.bias _) (h.days _)
  choose r hr using hr
  have hrow : sumRow x t d p w b e a s = fun k => (r k : EReal) := funext hr
  have hsum : (fun k => refSums x t d p w b e (ix3 a s k)) = sumRow x t d p w b e a s :=
    funext fun k => refSums_at x t d p w b e a s k (h.day _)
  rw [refNormed_at, hsum, hrow, kernelNormed_eq]

variable (m : (ℓ : Loc nD τ sig) → Buf (Elt Ideal) ℓ) (c : Dev nD)

/-- The kernel's array is the reference's term over the kernel's arguments. -/
theorem kernel_eq_ref (h : Fine (m (c.tc.loc main_arg0)) (m (c.tc.loc main_arg1)) (m (c.tc.loc main_arg2))
      (m (c.tc.loc main_arg3)) (m (c.tc.loc main_arg4)) (m (c.tc.loc main_arg5)) (m (c.tc.loc main_arg6))) :
    (dats m 0 c).arrAt 7 (cfgs 0).N = refNormed
      (refSums (m (c.tc.loc main_arg0)) (m (c.tc.loc main_arg1)) (m (c.tc.loc main_arg2)) (m (c.tc.loc main_arg3))
        (m (c.tc.loc main_arg4)) (m (c.tc.loc main_arg5)) (m (c.tc.loc main_arg6)))
      (m (c.tc.loc main_arg7)) (m (c.tc.loc main_arg8)) := by
  rw [final m c fun a s => h.day (ix2 a s)]
  funext i
  have hi : i = ix3 (i 0) (i 1) (i 2) := by
    funext a
    match a with
    | ⟨0, _⟩ => rfl
    | ⟨1, _⟩ => rfl
    | ⟨2, _⟩ => rfl
  rw [hi]
  exact (ref_entry _ _ _ _ _ _ _ _ _ h (i 0) (i 1) (i 2)).symm

end Cert.LayerNormed
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_days
public import proofs.«01_k».proof.Proof.Gen.KernelIdeal.Value
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its arguments unchanged and, having no semaphore, with every counter at zero. -/
theorem reference_frame : Cert.quiescent_ReferenceIdeal (hReferenceIdeal := Cert.ReferenceIdeal.Gen.facts) := by
  intro m g _
  refine (θ_run Cert.ReferenceIdeal.defs _ _).mono (fun r h => ⟨fun c => (h c).2, ?_⟩) (Cert.ReferenceIdeal.Value.run m g)
  exact Idealize.ShloMosaic.sem_eq_zero_of_no_sems (by decide) r.2

/-- The kernel and the reference, on the same arguments under the precondition, end with the same array. -/
theorem same_array : Cert.algebraic_KernelIdeal_ReferenceIdeal_pre_finite_and_days
    (hKernelIdeal := Cert.KernelIdeal.Gen.facts) (hReferenceIdeal := Cert.ReferenceIdeal.Gen.facts)
    (hPre_finite_and_days := Cert.Pre_finite_and_days.Gen.facts) := by
  pair_intro
  · run_from Cert.KernelIdeal.Gen.run_main m g
  · run_from Cert.ReferenceIdeal.Value.run m' g'
    refine (Cert.LayerNormed.ref_eq m' c).trans ?_
    obtain ⟨h0, h1, h2, h3, h4, h5, h6, h7, h8⟩ := hagree c
    rw [h0, h1, h2, h3, h4, h5, h6, h7, h8]
    exact (Cert.LayerNormed.kernel_eq_ref m c (Cert.LayerNormed.fine_of_pre _ _ _ _ _ _ _ _ _ (hpre c))).symm

/-- The claims together: the frames of kernel and reference, the kernel's ideal text, and the equation of the results. -/
theorem claim : Cert.Claim := ⟨Cert.Kernel.Gen.facts, Cert.KernelIdeal.Gen.facts, Cert.ReferenceIdeal.Gen.facts, Cert.Pre_finite_and_days.Gen.facts,
  fun m g _ => Cert.Kernel.Gen.frame m g, fun m g _ => Cert.KernelIdeal.Gen.frame m g, fun m g _ => Cert.KernelIdeal.Gen.frame m g,
  reference_frame, fun m g _ => reference_frame m g trivial, trivial, same_array⟩

end Cert.Proof

end
